-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x3200 : Shape := ⟨3, ![2, 128, 3200]⟩
abbrev S3200 : Shape := ⟨1, ![3200]⟩
abbrev S3200x2160 : Shape := ⟨2, ![3200, 2160]⟩
abbrev S_ : Shape := ⟨0, ![]⟩
abbrev S1x1 : Shape := ⟨2, ![1, 1]⟩
abbrev S256x3200 : Shape := ⟨2, ![256, 3200]⟩
abbrev S1x3200 : Shape := ⟨2, ![1, 3200]⟩
abbrev S256x8640 : Shape := ⟨2, ![256, 8640]⟩
abbrev S256x1 : Shape := ⟨2, ![256, 1]⟩
abbrev S32x3200 : Shape := ⟨2, ![32, 3200]⟩
abbrev S32 : Shape := ⟨1, ![32]⟩
abbrev S32x1 : Shape := ⟨2, ![32, 1]⟩
abbrev S3200x256 : Shape := ⟨2, ![3200, 256]⟩
abbrev S256x256 : Shape := ⟨2, ![256, 256]⟩
abbrev S3200x112 : Shape := ⟨2, ![3200, 112]⟩
abbrev S256x112 : Shape := ⟨2, ![256, 112]⟩
abbrev S2x128x8640 : Shape := ⟨3, ![2, 128, 8640]⟩
abbrev S2x128 : Shape := ⟨2, ![2, 128]⟩

abbrev nBuf : Space → Nat
  | .hbm => 13
  | .vmem => 9
  | .smem => 1
  | _ => 0

abbrev bufTy : (tb : Table) → Fin (tcTables nBuf tb) → BufTy
  | .hbm, ⟨0, _⟩ => ⟨S2x128x3200, .bf16⟩
  | .hbm, ⟨1, _⟩ => ⟨S3200, .f32⟩
  | .hbm, ⟨2, _⟩ => ⟨S3200x2160, .i8⟩
  | .hbm, ⟨3, _⟩ => ⟨S_, .f32⟩
  | .hbm, ⟨4, _⟩ => ⟨S1x1, .f32⟩
  | .hbm, ⟨5, _⟩ => ⟨S256x3200, .bf16⟩
  | .hbm, ⟨6, _⟩ => ⟨S1x3200, .f32⟩
  | .hbm, ⟨7, _⟩ => ⟨S256x8640, .bf16⟩
  | .hbm, ⟨8, _⟩ => ⟨S256x3200, .i8⟩
  | .hbm, ⟨9, _⟩ => ⟨S256x1, .f32⟩
  | .hbm, ⟨10, _⟩ => ⟨S2x128x8640, .bf16⟩
  | .hbm, ⟨11, _⟩ => ⟨S2x128x3200, .i8⟩
  | .hbm, ⟨12, _⟩ => ⟨S2x128, .f32⟩
  | .local _ .vmem, ⟨0, _⟩ => ⟨S256x3200, .bf16⟩
  | .local _ .vmem, ⟨1, _⟩ => ⟨S1x3200, .f32⟩
  | .local _ .vmem, ⟨2, _⟩ => ⟨S3200x2160, .i8⟩
  | .local _ .vmem, ⟨3, _⟩ => ⟨S256x8640, .bf16⟩
  | .local _ .vmem, ⟨4, _⟩ => ⟨S256x3200, .i8⟩
  | .local _ .vmem, ⟨5, _⟩ => ⟨S256x1, .f32⟩
  | .local _ .vmem, ⟨6, _⟩ => ⟨S256x3200, .bf16⟩
  | .local _ .vmem, ⟨7, _⟩ => ⟨S256x1, .f32⟩
  | .local _ .vmem, ⟨8, _⟩ => ⟨S256x1, .f32⟩
  | .local _ .smem, ⟨0, _⟩ => ⟨S1x1, .f32⟩
  | _, _ => ⟨S2x128x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3200x2160 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x8640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x3200 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S2x128x3200 : Shape := ⟨3, ![2, 128, 3200]⟩
abbrev S3200 : Shape := ⟨1, ![3200]⟩
abbrev S3200x2160 : Shape := ⟨2, ![3200, 2160]⟩
abbrev S_ : Shape := ⟨0, ![]⟩
abbrev S1x1 : Shape := ⟨2, ![1, 1]⟩
abbrev S2x128x8640 : Shape := ⟨3, ![2, 128, 8640]⟩
abbrev S2x128 : Shape := ⟨2, ![2, 128]⟩
abbrev S2x128x1 : Shape := ⟨3, ![2, 128, 1]⟩
abbrev S1x1x3200 : Shape := ⟨3, ![1, 1, 3200]⟩
abbrev S256x3200 : Shape := ⟨2, ![256, 3200]⟩
abbrev S256x1 : Shape := ⟨2, ![256, 1]⟩
abbrev S256 : Shape := ⟨1, ![256]⟩
abbrev S256x2160 : Shape := ⟨2, ![256, 2160]⟩
abbrev S256x1x2160 : Shape := ⟨3, ![256, 1, 2160]⟩
abbrev S256x4x2160 : Shape := ⟨3, ![256, 4, 2160]⟩

abbrev nBuf : Space → Nat
  | .hbm => 8
  | .vmem => 7
  | .smem => 0
  | _ => 0

abbrev bufTy : (tb : Table) → Fin (tcTables nBuf tb) → BufTy
  | .hbm, ⟨0, _⟩ => ⟨S2x128x3200, .bf16⟩
  | .hbm, ⟨1, _⟩ => ⟨S3200, .f32⟩
  | .hbm, ⟨2, _⟩ => ⟨S3200x2160, .i8⟩
  | .hbm, ⟨3, _⟩ => ⟨S_, .f32⟩
  | .hbm, ⟨4, _⟩ => ⟨S1x1, .f32⟩
  | .hbm, ⟨5, _⟩ => ⟨S2x128x8640, .bf16⟩
  | .hbm, ⟨6, _⟩ => ⟨S2x128x3200, .i8⟩
  | .hbm, ⟨7, _⟩ => ⟨S2x128, .f32⟩
  | .local _ .vmem, ⟨0, _⟩ => ⟨S2x128x3200, .bf16⟩
  | .local _ .vmem, ⟨1, _⟩ => ⟨S3200, .f32⟩
  | .local _ .vmem, ⟨2, _⟩ => ⟨S3200x2160, .i8⟩
  | .local _ .vmem, ⟨3, _⟩ => ⟨S1x1, .f32⟩
  | .local _ .vmem, ⟨4, _⟩ => ⟨S2x128x8640, .bf16⟩
  | .local _ .vmem, ⟨5, _⟩ => ⟨S2x128x3200, .i8⟩
  | .local _ .vmem, ⟨6, _⟩ => ⟨S2x128, .f32⟩
  | _, _ => ⟨S2x128x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x128x3200 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3200x2160 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x3200 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Spec.lean ====
module

public import Idealize.ShloMosaic.Lib.Pointwise
public import Idealize.ShloMosaic.Lib.IdealHost

@[expose] public section

set_option maxRecDepth 16384

noncomputable section

/-! # The layer, one row of activations at a time, over the extended reals

`x` is a row of activations, `g` the gains; every quantity the two programs compute for a token is one of these
functions of that token's row. -/

namespace BitLinear

open Idealize.ShloMosaic

/-- Entry `k` of the row after RMS normalisation: `x k · rsqrt (mean of squares + eps) · g k`. -/
def rowNorm (x g : Fin 3200 → EReal) (k : Fin 3200) : EReal :=
  x k * Ideal.rsqrt (Ideal.div (∑ l, x l * x l) (Ideal.ofBits .f32 0x45480000#32) + Ideal.ofBits .f32 0x358637BD#32) * g k

/-- The greatest magnitude of the normalised row (from −∞). -/
def rowMax (x g : Fin 3200 → EReal) : EReal :=
  Finset.univ.fold max (Ideal.ofBits .f32 0xFF800000#32) fun k => FloatOps.absf (F := Ideal) (φ := .f32) (rowNorm x g k)

/-- The row's scale: 1 where the greatest magnitude is zero, else that magnitude over 127. -/
def rowScale (x g : Fin 3200 → EReal) : EReal :=
  if rowMax x g = 0 then 1 else Ideal.div (rowMax x g) (Ideal.ofBits .f32 0x42FE0000#32)

/-- Entry `k` of the row over its scale, rounded to nearest even and clipped to −127 … 127. -/
def rowQ (x g : Fin 3200 → EReal) (k : Fin 3200) : EReal :=
  min (Ideal.ofBits .f32 0x42FE0000#32) (max (Ideal.ofBits .f32 0xC2FE0000#32)
    (Ideal.liftRound Ideal.roundHalfEven (Ideal.div (rowNorm x g k) (rowScale x g))))

/-- Entry `k`'s code, an eight-bit integer. -/
def rowCode (x g : Fin 3200 → EReal) (k : Fin 3200) : BitVec 8 :=
  FloatOps.fptosi (F := Ideal) (φ := .f32) 8 (rowQ x g k)

/-- The sum of the row's rounded entries. -/
def rowSum (x g : Fin 3200 → EReal) : EReal := ∑ k, rowQ x g k

/-- The two-bit field of the byte `w` that starts at bit `sh`, as a number. -/
def field (sh : BitVec 32) (w : BitVec 8) : EReal :=
  FloatOps.sitofp (F := Ideal) .f32 (IntOp.andi (IntOp.shrsi ArithUnit.vector (BitVec.setWidth 32 w) sh) 3#32)

/-- The row's product with one column of packed weights, the fields at bit `sh`: weights are the fields less one
    (hence the row's sum), then the two scales. -/
def rowOut (sh : BitVec 32) (x g : Fin 3200 → EReal) (w : Fin 3200 → BitVec 8) (s : EReal) : EReal :=
  (∑ k, rowQ x g k * field sh (w k) - rowSum x g) * rowScale x g * s

/-- The constant the codes are clipped to is 127. -/
theorem ofBits_127 : Ideal.ofBits .f32 0x42FE0000#32 = ((127 : ℝ) : EReal) := by
  simp [Ideal.ofBits, Ideal.ieee]
  rw [← EReal.coe_mul]
  norm_num

/-- And from below −127. -/
theorem ofBits_neg127 : Ideal.ofBits .f32 0xC2FE0000#32 = ((-127 : ℝ) : EReal) := by
  simp [Ideal.ofBits, Ideal.ieee]
  rw [← EReal.coe_mul]
  norm_num

/-- A rounded and clipped number is an integer between −127 and 127. -/
theorem clip_round (z : EReal) : ∃ n : ℤ, -127 ≤ n ∧ n ≤ 127 ∧
    min (Ideal.ofBits .f32 0x42FE0000#32) (max (Ideal.ofBits .f32 0xC2FE0000#32) (Ideal.liftRound Ideal.roundHalfEven z))
      = (((n : ℤ) : ℝ) : EReal) := by
  rw [ofBits_127, ofBits_neg127]
  induction z with
  | bot => exact ⟨-127, by norm_num, by norm_num, by simp [Ideal.liftRound_bot]; norm_cast⟩
  | top => exact ⟨127, by norm_num, by norm_num, by simp [Ideal.liftRound_top]⟩
  | coe r =>
    refine ⟨min 127 (max (-127) (Ideal.roundHalfEven r)), by omega, by omega, ?_⟩
    rw [Ideal.liftRound_coe, ← EReal.coe_strictMono.monotone.map_max, ← EReal.coe_strictMono.monotone.map_min]
    push_cast
    rfl

/-- An integer between −127 and 127 comes back from its eight-bit code unchanged. -/
theorem sitofp_fptosi (φ : FTy) (n : ℤ) (h : -127 ≤ n) (h' : n ≤ 127) :
    FloatOps.sitofp (F := Ideal) φ (FloatOps.fptosi (F := Ideal) (φ := .f32) 8 (((n : ℤ) : ℝ) : EReal)) = (((n : ℤ) : ℝ) : EReal) := by
  have e : Ideal.fptosi 8 (((n : ℤ) : ℝ) : EReal) = BitVec.ofInt 8 n := by
    rw [Ideal.fptosi, Ideal.toIntClamped_coe, Int.floor_intCast, Int.ceil_intCast, ite_self]
    congr 1
    norm_num
    omega
  show (((Ideal.fptosi 8 (((n : ℤ) : ℝ) : EReal)).toInt : ℝ) : EReal) = _
  rw [e, BitVec.toInt_ofInt, Int.bmod_eq_of_le (by norm_num; omega) (by norm_num; omega)]

/-- A row's code, read back as a number, is the rounded entry it was made from. -/
theorem sitofp_rowCode (φ : FTy) (x g : Fin 3200 → EReal) (k : Fin 3200) :
    FloatOps.sitofp (F := Ideal) φ (rowCode x g k) = rowQ x g k := by
  obtain ⟨n, h, h', e⟩ := clip_round (Ideal.div (rowNorm x g k) (rowScale x g))
  unfold rowCode
  rw [show rowQ x g k = _ from e]
  exact sitofp_fptosi φ n h h'

end BitLinear

end
-- ==== Proof.Tile.lean ====
module

public import proofs.«01_k».proof.Proof.Gen.KernelIdeal.Skeleton
public import proofs.«01_k».proof.Proof.Spec
public import Idealize.ShloMosaic.Lib.Pipeline.ValueKit

@[expose] public section

set_option maxRecDepth 16384

noncomputable section

/-! # What one tile of the kernel computes

A row tile is 32 tokens; a column tile is 256 output columns (112 in the last one) of one of the four fields. -/

namespace Cert.KernelIdeal.Val

open Cert.KernelIdeal Cert.KernelIdeal.Gen Idealize.ShloMosaic Idealize.ShloMosaic.TcCoe BitLinear

/-- Row `i` of the activations. -/
abbrev xrow (x : Vec Ideal S256x3200 .bf16) (i : Fin 256) : Fin 3200 → EReal := fun k => x (ix2 i k)

/-- The gains as a row. -/
abbrev grow (g : Vec Ideal S1x3200 .f32) : Fin 3200 → EReal := fun k => g (ix2 0 k)

/-- The codes of all rows. -/
def codesOf (x : Vec Ideal S256x3200 .bf16) (g : Vec Ideal S1x3200 .f32) : Vec Ideal S256x3200 .i8 :=
  fun y => rowCode (xrow x (y 0)) (grow g) (y 1)

/-- The rounded entries of all rows. -/
def xbOf (x : Vec Ideal S256x3200 .bf16) (g : Vec Ideal S1x3200 .f32) : Vec Ideal S256x3200 .bf16 :=
  fun y => rowQ (xrow x (y 0)) (grow g) (y 1)

/-- The scales of all rows. -/
def xsOf (x : Vec Ideal S256x3200 .bf16) (g : Vec Ideal S1x3200 .f32) : Vec Ideal S256x1 .f32 :=
  fun y => rowScale (xrow x (y 0)) (grow g)

/-- The sums of all rows. -/
def xsumOf (x : Vec Ideal S256x3200 .bf16) (g : Vec Ideal S1x3200 .f32) : Vec Ideal S256x1 .f32 :=
  fun y => rowSum (xrow x (y 0)) (grow g)

/-! ## A row tile -/

section Row
variable (v : Vec Ideal S32x3200 .bf16) (g : Vec Ideal S1x3200 .f32) (i : Fin 32) (k : Fin 3200)

/-- The scale a row tile computes. -/
theorem scale_at : k0_pay3 v g (ix2 i 0) = rowScale (fun k => v (ix2 i k)) (grow g) := by
  pointwise [k0_pay3, k0_pay2]; rfl

/-- The rounded entries a row tile computes. -/
theorem q_at : k0_pay4 v g (ix2 i k) = rowQ (fun k => v (ix2 i k)) (grow g) k := by
  pointwise [k0_pay4, k0_pay2, scale_at]; rfl

/-- The codes a row tile stores. -/
theorem code_at : k0_pay5 v g (ix2 i k) = rowCode (fun k => v (ix2 i k)) (grow g) k := by
  pointwise [k0_pay5, q_at]; rfl

/-- The operand of the products a row tile stores. -/
theorem xb_at : k0_pay6 v g (ix2 i k) = rowQ (fun k => v (ix2 i k)) (grow g) k := by
  pointwise [k0_pay6, q_at]

/-- The scale a row tile stores. -/
theorem xs_at : k0_pay7 (k0_pay3 v g) (ix2 i 0) = rowScale (fun k => v (ix2 i k)) (grow g) := by
  pointwise [k0_pay7, scale_at]

/-- The sum a row tile stores. -/
theorem xsum_at : k0_pay8 (k0_pay4 v g) (ix2 i 0) = rowSum (fun k => v (ix2 i k)) (grow g) := by
  pointwise [k0_pay8, q_at]; rfl

end Row

/-! ## A column tile -/

section Col
variable (sh : BitVec 32) (s : EReal) (xb : FVec Ideal S256x3200 .bf16) (xsum xs : FVec Ideal S256x1 .f32)

/-- The tile of 256 output columns the kernel stores: the product of the rounded entries with the fields at bit `sh` of
    the packed weights `w`, less the rows' sums, times the rows' scales, times `s`. -/
def col256 (w : Vec Ideal S3200x256 .i8) : FVec Ideal S256x256 .bf16 :=
  truncf .bf16 (mulf (mulf (subf (matmul dot_S256x3200_S3200x256_S256x256_1_0_0_1_n_n none xb
    (truncf .bf16 (sitofp .f32 (andi (shrsi (extui 32 w natLt_8_32) (broadcast S3200x256 sh)) (broadcast S3200x256 3#32))) bitsLt_bf16_f32)
    (constant S256x256 .f32 0x00000000#32)) (broadcastTo S256x256 xsum broadcasts_S256x1_S256x256))
    (broadcastTo S256x256 xs broadcasts_S256x1_S256x256)) (broadcast S256x256 s)) bitsLt_bf16_f32

/-- An entry of that tile. -/
theorem col256_at (w : Vec Ideal S3200x256 .i8) (i : Fin 256) (k : Fin 256) : col256 sh s xb xsum xs w (ix2 i k)
    = ((∑ l, xb (ix2 i l) * field sh (w (ix2 l k)) - xsum (ix2 i 0)) * xs (ix2 i 0) * s : EReal) := by
  pointwise [col256]; rfl

/-- The tile of 112 output columns the kernel stores: the product of the rounded entries with the fields at bit `sh` of
    the packed weights `w`, less the rows' sums, times the rows' scales, times `s`. -/
def col112 (w : Vec Ideal S3200x112 .i8) : FVec Ideal S256x112 .bf16 :=
  truncf .bf16 (mulf (mulf (subf (matmul dot_S256x3200_S3200x112_S256x112_1_0_0_1_n_n none xb
    (truncf .bf16 (sitofp .f32 (andi (shrsi (extui 32 w natLt_8_32) (broadcast S3200x112 sh)) (broadcast S3200x112 3#32))) bitsLt_bf16_f32)
    (constant S256x112 .f32 0x00000000#32)) (broadcastTo S256x112 xsum broadcasts_S256x1_S256x112))
    (broadcastTo S256x112 xs broadcasts_S256x1_S256x112)) (broadcast S256x112 s)) bitsLt_bf16_f32

/-- An entry of that tile. -/
theorem col112_at (w : Vec Ideal S3200x112 .i8) (i : Fin 256) (k : Fin 112) : col112 sh s xb xsum xs w (ix2 i k)
    = ((∑ l, xb (ix2 i l) * field sh (w (ix2 l k)) - xsum (ix2 i 0)) * xs (ix2 i 0) * s : EReal) := by
  pointwise [col112]; rfl

end Col

end Cert.KernelIdeal.Val

end
-- ==== Proof.Rows.lean ====
module

public import proofs.«01_k».proof.Proof.Gen.KernelIdeal.Frame
public import proofs.«01_k».proof.Proof.Tile

@[expose] public section

set_option maxRecDepth 16384

noncomputable section

/-! # What the row tiles leave: the codes, and the three scratch arrays the column tiles read

The eight row tiles are the same computation on rows `32 n … 32 n + 31`; each stores its tile of four arrays. -/

namespace Cert.KernelIdeal.Val

open Cert.KernelIdeal Cert.KernelIdeal.Gen Idealize.ShloMosaic Idealize.ShloMosaic.TcCoe BitLinear

section Pieces
variable (x : Vec Ideal S256x3200 .bf16) (g : Vec Ideal S1x3200 .f32)
  (o : ℕ) (h : ∀ a, ![o, 0] a + S32x3200.size a ≤ S256x3200.size a) (h' : ∀ a, ![o, 0] a + S32x1.size a ≤ S256x1.size a)

/-- The 32 rows of the activations from row `o` on. -/
abbrev ldx : Vec Ideal S32x3200 .bf16 :=
  View.ld (S := S256x3200) (Val := Elt Ideal) (e' := .bf16) x (Rect.unit ![o, 0] S32x3200.size h)

/-- The gains, loaded whole. -/
abbrev ldg : Vec Ideal S1x3200 .f32 :=
  View.ld (S := S1x3200) (Val := Elt Ideal) (e' := .f32) g (Rect.unit ![0, 0] S1x3200.size inb_S1x3200_S1x3200_0_0)

/-- The gains loaded whole are the gains. -/
theorem ldg_eq : ldg g = g := View.ld_unit_lit _ _ (by decide)

/-- Index `(i, k)` of the tile at row `o` is index `(o + i, k)` of the array. -/
theorem emb_rows (i : Fin 32) (k : Fin 3200) : (Rect.unit (s := S256x3200) ![o, 0] S32x3200.size h).emb (ix2 i k)
    = ix2 ((Rect.unit (s := S256x3200) ![o, 0] S32x3200.size h).emb (ix2 i k) 0) k := by
  refine funext fun a => Fin.ext ?_
  match a with
  | ⟨0, _⟩ => rfl
  | ⟨1, _⟩ => show 0 + 1 * k.val = k.val; omega

/-- Row `i` of the loaded tile is the row of the array the tile's rectangle names. -/
theorem ldx_row (i : Fin 32) (k : Fin 3200) :
    (fun l => ldx x o h (ix2 i l)) = xrow x ((Rect.unit (s := S256x3200) ![o, 0] S32x3200.size h).emb (ix2 i k) 0) := by
  funext l
  exact congrArg x (emb_rows o h i l)

/-- The same, the tile's rectangle being that of a one-column array. -/
theorem ldx_row1 (i : Fin 32) :
    (fun l => ldx x o h (ix2 i l)) = xrow x ((Rect.unit (s := S256x1) ![o, 0] S32x1.size h').emb (ix2 i 0) 0) :=
  ldx_row x o h i 0

/-- The codes stored for the tile at row `o` are those rows of the codes. -/
theorem code_piece (y : S32x3200.Idx) :
    k0_pay5 (ldx x o h) (ldg g) y = codesOf x g ((Rect.unit (s := S256x3200) ![o, 0] S32x3200.size h).emb y) := by
  idx_vars y
  rw [code_at, ldg_eq, ldx_row x o h y0 y1, emb_rows]
  rfl

/-- The rounded entries stored for the tile are those rows of the rounded entries. -/
theorem xb_piece (y : S32x3200.Idx) :
    k0_pay6 (ldx x o h) (ldg g) y = xbOf x g ((Rect.unit (s := S256x3200) ![o, 0] S32x3200.size h).emb y) := by
  idx_vars y
  rw [xb_at, ldg_eq, ldx_row x o h y0 y1, emb_rows]
  rfl

/-- The scales stored for the tile are those rows' scales. -/
theorem xs_piece (y : S32x1.Idx) :
    k0_pay7 (k0_pay3 (ldx x o h) (ldg g)) y = xsOf x g ((Rect.unit (s := S256x1) ![o, 0] S32x1.size h').emb y) := by
  idx_vars y
  obtain rfl : y1 = 0 := Subsingleton.elim _ _
  rw [xs_at, ldg_eq, ldx_row1 x o h h' y0]
  rfl

/-- The sums stored for the tile are those rows' sums. -/
theorem xsum_piece (y : S32x1.Idx) :
    k0_pay8 (k0_pay4 (ldx x o h) (ldg g)) y = xsumOf x g ((Rect.unit (s := S256x1) ![o, 0] S32x1.size h').emb y) := by
  idx_vars y
  obtain rfl : y1 = 0 := Subsingleton.elim _ _
  rw [xsum_at, ldg_eq, ldx_row1 x o h h' y0]
  rfl

end Pieces

section Scratch
variable (c : Dev nD) (arg1 : Memref sig .tc .vmem S256x3200 .bf16) (harg1 : arg1.IsWhole)
  (arg2 : Memref sig .tc .vmem S1x3200 .f32) (harg2 : arg2.IsWhole)
  (x : Vec Ideal S256x3200 .bf16) (g : Vec Ideal S1x3200 .f32)

set_option maxHeartbeats 1600000 in
/-- What the column tiles load of the first scratch array: the rounded entries of all rows. -/
theorem read_xb (arg7 : Memref sig .tc .vmem S256x3200 .bf16) :
    kernelRun0_A.sl.v387 c arg1 harg1 arg2 harg2 arg7 x g = xbOf x g := by
  have hc : ∀ y, ∃ p ∈ kernelRun0_A.sl.HS0_8 c arg1 harg1 arg2 harg2 x g, y ∈ p.1.set :=
    fun y => View.cover_of_tiledL (kernelRun0_A.sl.HS0_8 c arg1 harg1 arg2 harg2 x g) S32x3200.size (by sl_kernel_rfl) y
  unfold kernelRun0_A.sl.v387
  rw [View.readCov_eq_canon_ld _ _ _ hc]
  refine (View.ld_unit_lit _ _ (by decide)).trans (funext fun y => ?_)
  refine View.canon_apply_of_pieces (xbOf x g) _ ?_ y (hc y)
  sl_unfold_words
  simp only [View.readAt_eq_ld, harg1.read_unread, harg2.read_unread, List.forall_mem_cons, List.not_mem_nil, false_imp_iff, implies_true]
  exact ⟨xb_piece x g 224 _, xb_piece x g 192 _, xb_piece x g 160 _, xb_piece x g 128 _,
    xb_piece x g 96 _, xb_piece x g 64 _, xb_piece x g 32 _, xb_piece x g 0 _, trivial⟩

set_option maxHeartbeats 1600000 in
/-- What the column tiles load of the second scratch array: the scales of all rows. -/
theorem read_xs (arg8 : Memref sig .tc .vmem S256x1 .f32) :
    kernelRun0_A.sl.v376 c arg1 harg1 arg2 harg2 arg8 x g = xsOf x g := by
  have hc : ∀ y, ∃ p ∈ kernelRun0_A.sl.HS1_8 c arg1 harg1 arg2 harg2 x g, y ∈ p.1.set :=
    fun y => View.cover_of_tiledL (kernelRun0_A.sl.HS1_8 c arg1 harg1 arg2 harg2 x g) S32x1.size (by sl_kernel_rfl) y
  unfold kernelRun0_A.sl.v376
  rw [View.readCov_eq_canon_ld _ _ _ hc]
  refine (View.ld_unit_lit _ _ (by decide)).trans (funext fun y => ?_)
  refine View.canon_apply_of_pieces (xsOf x g) _ ?_ y (hc y)
  sl_unfold_words
  simp only [View.readAt_eq_ld, harg1.read_unread, harg2.read_unread, List.forall_mem_cons, List.not_mem_nil, false_imp_iff, implies_true]
  exact ⟨xs_piece x g 224 _ _, xs_piece x g 192 _ _, xs_piece x g 160 _ _, xs_piece x g 128 _ _,
    xs_piece x g 96 _ _, xs_piece x g 64 _ _, xs_piece x g 32 _ _, xs_piece x g 0 _ _, trivial⟩

set_option maxHeartbeats 1600000 in
/-- What the column tiles load of the third scratch array: the sums of all rows. -/
theorem read_xsum (arg9 : Memref sig .tc .vmem S256x1 .f32) :
    kernelRun0_A.sl.v389 c arg1 harg1 arg2 harg2 arg9 x g = xsumOf x g := by
  have hc : ∀ y, ∃ p ∈ kernelRun0_A.sl.HS2_8 c arg1 harg1 arg2 harg2 x g, y ∈ p.1.set :=
    fun y => View.cover_of_tiledL (kernelRun0_A.sl.HS2_8 c arg1 harg1 arg2 harg2 x g) S32x1.size (by sl_kernel_rfl) y
  unfold kernelRun0_A.sl.v389
  rw [View.readCov_eq_canon_ld _ _ _ hc]
  refine (View.ld_unit_lit _ _ (by decide)).trans (funext fun y => ?_)
  refine View.canon_apply_of_pieces (xsumOf x g) _ ?_ y (hc y)
  sl_unfold_words
  simp only [View.readAt_eq_ld, harg1.read_unread, harg2.read_unread, List.forall_mem_cons, List.not_mem_nil, false_imp_iff, implies_true]
  exact ⟨xsum_piece x g 224 _ _, xsum_piece x g 192 _ _, xsum_piece x g 160 _ _, xsum_piece x g 128 _ _,
    xsum_piece x g 96 _ _, xsum_piece x g 64 _ _, xsum_piece x g 32 _ _, xsum_piece x g 0 _ _, trivial⟩

end Scratch
end Cert.KernelIdeal.Val

end
-- ==== Proof.Results.lean ====
module

public import proofs.«01_k».proof.Proof.Gen.KernelIdeal
public import proofs.«01_k».proof.Proof.Spec

@[expose] public section

noncomputable section

/-! # The three results as functions of the four arguments

The vocabulary both programs' runs are stated in: `x` the activations, `g` the gains, `w` the packed weights, `s` the
weights' scale. -/

namespace BitLinear

open Cert.KernelIdeal Idealize.ShloMosaic

/-- The shift that brings the packed field of output column `n` to the low bits: two bits for each 2160 columns. -/
def shiftOf (n : ℕ) : BitVec 32 := BitVec.ofNat 32 (2 * (n / 2160))

/-- The output: entry `(a, b, n)` is row `(a, b)` of the activations against the fields of output column `n`. -/
def resY (x : Vec Ideal S2x128x3200 .bf16) (g : Vec Ideal S3200 .f32) (w : Vec Ideal S3200x2160 .i8) (s : Vec Ideal S_ .f32) :
    Vec Ideal S2x128x8640 .bf16 := fun y =>
  rowOut (shiftOf (y 2).val) (fun k => x (ix3 (y 0) (y 1) k)) (fun k => g (ix1 k))
    (fun l => w (ix2 l ⟨(y 2).val % 2160, Nat.mod_lt _ (by decide)⟩)) (s (fun a => a.elim0))

/-- The codes: entry `(a, b, k)` is the code of entry `k` of row `(a, b)`. -/
def resCodes (x : Vec Ideal S2x128x3200 .bf16) (g : Vec Ideal S3200 .f32) : Vec Ideal S2x128x3200 .i8 := fun y =>
  rowCode (fun k => x (ix3 (y 0) (y 1) k)) (fun k => g (ix1 k)) (y 2)

/-- The scales: entry `(a, b)` is the scale of row `(a, b)`. -/
def resScales (x : Vec Ideal S2x128x3200 .bf16) (g : Vec Ideal S3200 .f32) : Vec Ideal S2x128 .f32 := fun y =>
  rowScale (fun k => x (ix3 (y 0) (y 1) k)) (fun k => g (ix1 k))

end BitLinear

end
-- ==== Proof.Block.lean ====
module

public import proofs.«01_k».proof.Proof.Rows
public import proofs.«01_k».proof.Proof.Results

@[expose] public section

set_option maxRecDepth 16384

noncomputable section

/-! # What the kernel's one grid point leaves in its three outputs

The scales are one store, the codes the eight row tiles' stores, and the output the 36 stores of the column tiles. -/

namespace Cert.KernelIdeal.Val

open Cert.KernelIdeal Cert.KernelIdeal.Gen Idealize.ShloMosaic Idealize.ShloMosaic.TcCoe BitLinear

section Pieces
variable (x : Vec Ideal S256x3200 .bf16) (g : Vec Ideal S1x3200 .f32) (w : Vec Ideal S3200x2160 .i8) (s : Vec Ideal S1x1 .f32)

/-- The output: entry `(i, n)` from row `i` of the activations and the fields of packed column `n mod 2160`. -/
def yOf : Vec Ideal S256x8640 .bf16 := fun y =>
  rowOut (shiftOf (y 1).val) (xrow x (y 0)) (grow g)
    (fun l => w (ix2 l ⟨(y 1).val % 2160, Nat.mod_lt _ (by decide)⟩)) (s (ix2 0 0))

/-- The 256 packed columns from column `o` on. -/
abbrev ldw256 (o : ℕ) (h : ∀ a, ![0, o] a + S3200x256.size a ≤ S3200x2160.size a) : Vec Ideal S3200x256 .i8 :=
  View.ld (S := S3200x2160) (Val := Elt Ideal) (e' := .i8) w (Rect.unit ![0, o] S3200x256.size h)

/-- The 112 packed columns from column `o` on. -/
abbrev ldw112 (o : ℕ) (h : ∀ a, ![0, o] a + S3200x112.size a ≤ S3200x2160.size a) : Vec Ideal S3200x112 .i8 :=
  View.ld (S := S3200x2160) (Val := Elt Ideal) (e' := .i8) w (Rect.unit ![0, o] S3200x112.size h)

/-- The tile of field `j` over the 256 packed columns from `o` on is the output's columns from `2160 j + o` on. -/
theorem y256_piece (j o p : ℕ) (sh : BitVec 32) (hsh : sh = BitVec.ofNat 32 (2 * j)) (hp : p = j * 2160 + o)
    (h : ∀ a, ![0, o] a + S3200x256.size a ≤ S3200x2160.size a)
    (h' : ∀ a, ![0, p] a + S256x256.size a ≤ S256x8640.size a) (y : S256x256.Idx) :
    col256 sh (s (ix2 0 0)) (xbOf x g) (xsumOf x g) (xsOf x g) (ldw256 w o h) y
      = yOf x g w s ((Rect.unit (s := S256x8640) ![0, p] S256x256.size h').emb y) := by
  idx_vars y
  rw [col256_at]
  have ho : o + 256 ≤ 2160 := h 1
  subst hsh hp
  have hn : ((Rect.unit (s := S256x8640) ![0, j * 2160 + o] S256x256.size h').emb (ix2 y0 y1) 1).val = j * 2160 + (o + y1.val) := by
    show (j * 2160 + o) + 1 * y1.val = _; omega
  have h0 : (Rect.unit (s := S256x8640) ![0, j * 2160 + o] S256x256.size h').emb (ix2 y0 y1) 0 = y0 :=
    Fin.ext (by show 0 + 1 * y0.val = y0.val; omega)
  have hlt := y1.isLt
  have hw : ∀ l, ldw256 w o h (ix2 l y1) = w (ix2 l ⟨(o + y1.val), by omega⟩) := fun l => congrArg w (funext fun a => Fin.ext (by
    match a with
    | ⟨0, _⟩ => show 0 + 1 * l.val = l.val; omega
    | ⟨1, _⟩ => show o + 1 * y1.val = o + y1.val; omega))
  have hm : (j * 2160 + (o + y1.val)) % 2160 = o + y1.val := by
    omega
  have hd : (j * 2160 + (o + y1.val)) / 2160 = j := by omega
  unfold yOf rowOut shiftOf
  simp only [hn, h0, hw, hm, hd]
  rfl

/-- The tile of field `j` over the 112 packed columns from `o` on is the output's columns from `2160 j + o` on. -/
theorem y112_piece (j o p : ℕ) (sh : BitVec 32) (hsh : sh = BitVec.ofNat 32 (2 * j)) (hp : p = j * 2160 + o)
    (h : ∀ a, ![0, o] a + S3200x112.size a ≤ S3200x2160.size a)
    (h' : ∀ a, ![0, p] a + S256x112.size a ≤ S256x8640.size a) (y : S256x112.Idx) :
    col112 sh (s (ix2 0 0)) (xbOf x g) (xsumOf x g) (xsOf x g) (ldw112 w o h) y
      = yOf x g w s ((Rect.unit (s := S256x8640) ![0, p] S256x112.size h').emb y) := by
  idx_vars y
  rw [col112_at]
  have ho : o + 112 ≤ 2160 := h 1
  subst hsh hp
  have hn : ((Rect.unit (s := S256x8640) ![0, j * 2160 + o] S256x112.size h').emb (ix2 y0 y1) 1).val = j * 2160 + (o + y1.val) := by
    show (j * 2160 + o) + 1 * y1.val = _; omega
  have h0 : (Rect.unit (s := S256x8640) ![0, j * 2160 + o] S256x112.size h').emb (ix2 y0 y1) 0 = y0 :=
    Fin.ext (by show 0 + 1 * y0.val = y0.val; omega)
  have hlt := y1.isLt
  have hw : ∀ l, ldw112 w o h (ix2 l y1) = w (ix2 l ⟨(o + y1.val), by omega⟩) := fun l => congrArg w (funext fun a => Fin.ext (by
    match a with
    | ⟨0, _⟩ => show 0 + 1 * l.val = l.val; omega
    | ⟨1, _⟩ => show o + 1 * y1.val = o + y1.val; omega))
  have hm : (j * 2160 + (o + y1.val)) % 2160 = o + y1.val := by
    omega
  have hd : (j * 2160 + (o + y1.val)) / 2160 = j := by omega
  unfold yOf rowOut shiftOf
  simp only [hn, h0, hw, hm, hd]
  rfl

end Pieces

section Run
variable (c : Dev nD) (arg0 : Memref sig .tc .smem S1x1 .f32) (harg0 : arg0.IsWhole) (arg1 : Memref sig .tc .vmem S256x3200 .bf16) (harg1 : arg1.IsWhole) (arg2 : Memref sig .tc .vmem S1x3200 .f32) (harg2 : arg2.IsWhole) (arg3 : Memref sig .tc .vmem S3200x2160 .i8) (harg3 : arg3.IsWhole) (arg4 : Memref sig .tc .vmem S256x8640 .bf16) (harg4 : arg4.IsWhole) (arg5 : Memref sig .tc .vmem S256x3200 .i8) (harg5 : arg5.IsWhole) (arg6 : Memref sig .tc .vmem S256x1 .f32) (harg6 : arg6.IsWhole) (arg7 : Memref sig .tc .vmem S256x3200 .bf16) (harg7 : arg7.IsWhole) (arg8 : Memref sig .tc .vmem S256x1 .f32) (harg8 : arg8.IsWhole) (arg9 : Memref sig .tc .vmem S256x1 .f32) (harg9 : arg9.IsWhole)
  (s : Vec Ideal S1x1 .f32) (x : Vec Ideal S256x3200 .bf16) (g : Vec Ideal S1x3200 .f32) (w : Vec Ideal S3200x2160 .i8)

set_option maxHeartbeats 1600000 in
/-- The codes the grid point leaves. -/
theorem out5_eq : out0_A_5 c arg0 harg0 arg1 harg1 arg2 harg2 arg3 harg3 arg4 harg4 arg5 harg5 arg6 harg6 arg7 harg7 arg8 harg8 arg9 harg9 s x g w = codesOf x g := by
  unfold out0_A_5
  rw [View.read_writes_eq_canon _ _ _ (cover0_A_5 _ _ _ _ _ _ _ _ _ _ _ _ _ _ _ _ _ _ _ _ _ _ _ _ _)]
  funext y
  refine View.canon_apply_of_pieces (codesOf x g) _ ?_ y (cover0_A_5 _ _ _ _ _ _ _ _ _ _ _ _ _ _ _ _ _ _ _ _ _ _ _ _ _ y)
  unfold kernelRun0_A
  dsimp only
  sl_unfold_words
  simp only [View.readAt_eq_ld, harg1.read_unread, harg2.read_unread, List.forall_mem_cons, List.not_mem_nil, false_imp_iff, implies_true]
  exact ⟨code_piece x g 224 _, code_piece x g 192 _, code_piece x g 160 _, code_piece x g 128 _,
    code_piece x g 96 _, code_piece x g 64 _, code_piece x g 32 _, code_piece x g 0 _, trivial⟩

set_option maxHeartbeats 1600000 in
/-- The scales the grid point leaves. -/
theorem out6_eq : out0_A_6 c arg0 harg0 arg1 harg1 arg2 harg2 arg3 harg3 arg4 harg4 arg5 harg5 arg6 harg6 arg7 harg7 arg8 harg8 arg9 harg9 s x g w = xsOf x g := by
  unfold out0_A_6
  rw [View.read_writes_eq_canon _ _ _ (cover0_A_6 _ _ _ _ _ _ _ _ _ _ _ _ _ _ _ _ _ _ _ _ _ _ _ _ _)]
  unfold kernelRun0_A
  dsimp only
  rw [read_xs]
  exact View.canon_cons_unit_lit (Val := Elt Ideal) (S := S256x1) (e := .f32) _ _ [] (by decide)

/-- The weights' scale, loaded as the one entry of its array. -/
theorem read_s : kernelRun0_A.sl.r_21 c arg0 harg0 s = s (ix2 0 0) := by
  unfold kernelRun0_A.sl.r_21
  rw [View.readAt_eq_ld, harg0.read_unread]
  exact congrArg s (funext fun a => match a with
    | ⟨0, _⟩ => Subsingleton.elim (α := Fin 1) _ _
    | ⟨1, _⟩ => Subsingleton.elim (α := Fin 1) _ _)

/-- The last column tile loads the scratch arrays again: the rounded entries, -/
theorem read_xb' : kernelRun0_A.sl.v1033 c arg1 harg1 arg2 harg2 arg7 x g = xbOf x g := read_xb c arg1 harg1 arg2 harg2 x g arg7
/-- the scales, -/
theorem read_xs' : kernelRun0_A.sl.v1038 c arg1 harg1 arg2 harg2 arg8 x g = xsOf x g := read_xs c arg1 harg1 arg2 harg2 x g arg8
/-- and the sums. -/
theorem read_xsum' : kernelRun0_A.sl.v1035 c arg1 harg1 arg2 harg2 arg9 x g = xsumOf x g := read_xsum c arg1 harg1 arg2 harg2 x g arg9

set_option maxHeartbeats 6400000 in
/-- The output the grid point leaves. -/
theorem out4_eq : out0_A_4 c arg0 harg0 arg1 harg1 arg2 harg2 arg3 harg3 arg4 harg4 arg5 harg5 arg6 harg6 arg7 harg7 arg8 harg8 arg9 harg9 s x g w = yOf x g w s := by
  unfold out0_A_4
  rw [View.read_writes_eq_canon _ _ _ (cover0_A_4 _ _ _ _ _ _ _ _ _ _ _ _ _ _ _ _ _ _ _ _ _ _ _ _ _)]
  funext y
  refine View.canon_apply_of_pieces (yOf x g w s) _ ?_ y (cover0_A_4 _ _ _ _ _ _ _ _ _ _ _ _ _ _ _ _ _ _ _ _ _ _ _ _ _ y)
  unfold kernelRun0_A
  dsimp only
  simp only [kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46,
    read_xb, read_xs, read_xsum, read_xb', read_xs', read_xsum', read_s, View.readAt_eq_ld, harg3.read_unread, List.forall_mem_cons, List.not_mem_nil, false_imp_iff, implies_true]
  exact ⟨y112_piece x g w s 3 2048 8528 6#32 rfl rfl inb_S3200x2160_S3200x112_0_2048 inb_S256x8640_S256x112_0_8528,
    y112_piece x g w s 2 2048 6368 4#32 rfl rfl inb_S3200x2160_S3200x112_0_2048 inb_S256x8640_S256x112_0_6368,
    y112_piece x g w s 1 2048 4208 2#32 rfl rfl inb_S3200x2160_S3200x112_0_2048 inb_S256x8640_S256x112_0_4208,
    y112_piece x g w s 0 2048 2048 0#32 rfl rfl inb_S3200x2160_S3200x112_0_2048 inb_S256x8640_S256x112_0_2048,
    y256_piece x g w s 3 1792 8272 6#32 rfl rfl inb_S3200x2160_S3200x256_0_1792 inb_S256x8640_S256x256_0_8272,
    y256_piece x g w s 2 1792 6112 4#32 rfl rfl inb_S3200x2160_S3200x256_0_1792 inb_S256x8640_S256x256_0_6112,
    y256_piece x g w s 1 1792 3952 2#32 rfl rfl inb_S3200x2160_S3200x256_0_1792 inb_S256x8640_S256x256_0_3952,
    y256_piece x g w s 0 1792 1792 0#32 rfl rfl inb_S3200x2160_S3200x256_0_1792 inb_S256x8640_S256x256_0_1792,
    y256_piece x g w s 3 1536 8016 6#32 rfl rfl inb_S3200x2160_S3200x256_0_1536 inb_S256x8640_S256x256_0_8016,
    y256_piece x g w s 2 1536 5856 4#32 rfl rfl inb_S3200x2160_S3200x256_0_1536 inb_S256x8640_S256x256_0_5856,
    y256_piece x g w s 1 1536 3696 2#32 rfl rfl inb_S3200x2160_S3200x256_0_1536 inb_S256x8640_S256x256_0_3696,
    y256_piece x g w s 0 1536 1536 0#32 rfl rfl inb_S3200x2160_S3200x256_0_1536 inb_S256x8640_S256x256_0_1536,
    y256_piece x g w s 3 1280 7760 6#32 rfl rfl inb_S3200x2160_S3200x256_0_1280 inb_S256x8640_S256x256_0_7760,
    y256_piece x g w s 2 1280 5600 4#32 rfl rfl inb_S3200x2160_S3200x256_0_1280 inb_S256x8640_S256x256_0_5600,
    y256_piece x g w s 1 1280 3440 2#32 rfl rfl inb_S3200x2160_S3200x256_0_1280 inb_S256x8640_S256x256_0_3440,
    y256_piece x g w s 0 1280 1280 0#32 rfl rfl inb_S3200x2160_S3200x256_0_1280 inb_S256x8640_S256x256_0_1280,
    y256_piece x g w s 3 1024 7504 6#32 rfl rfl inb_S3200x2160_S3200x256_0_1024 inb_S256x8640_S256x256_0_7504,
    y256_piece x g w s 2 1024 5344 4#32 rfl rfl inb_S3200x2160_S3200x256_0_1024 inb_S256x8640_S256x256_0_5344,
    y256_piece x g w s 1 1024 3184 2#32 rfl rfl inb_S3200x2160_S3200x256_0_1024 inb_S256x8640_S256x256_0_3184,
    y256_piece x g w s 0 1024 1024 0#32 rfl rfl inb_S3200x2160_S3200x256_0_1024 inb_S256x8640_S256x256_0_1024,
    y256_piece x g w s 3 768 7248 6#32 rfl rfl inb_S3200x2160_S3200x256_0_768 inb_S256x8640_S256x256_0_7248,
    y256_piece x g w s 2 768 5088 4#32 rfl rfl inb_S3200x2160_S3200x256_0_768 inb_S256x8640_S256x256_0_5088,
    y256_piece x g w s 1 768 2928 2#32 rfl rfl inb_S3200x2160_S3200x256_0_768 inb_S256x8640_S256x256_0_2928,
    y256_piece x g w s 0 768 768 0#32 rfl rfl inb_S3200x2160_S3200x256_0_768 inb_S256x8640_S256x256_0_768,
    y256_piece x g w s 3 512 6992 6#32 rfl rfl inb_S3200x2160_S3200x256_0_512 inb_S256x8640_S256x256_0_6992,
    y256_piece x g w s 2 512 4832 4#32 rfl rfl inb_S3200x2160_S3200x256_0_512 inb_S256x8640_S256x256_0_4832,
    y256_piece x g w s 1 512 2672 2#32 rfl rfl inb_S3200x2160_S3200x256_0_512 inb_S256x8640_S256x256_0_2672,
    y256_piece x g w s 0 512 512 0#32 rfl rfl inb_S3200x2160_S3200x256_0_512 inb_S256x8640_S256x256_0_512,
    y256_piece x g w s 3 256 6736 6#32 rfl rfl inb_S3200x2160_S3200x256_0_256 inb_S256x8640_S256x256_0_6736,
    y256_piece x g w s 2 256 4576 4#32 rfl rfl inb_S3200x2160_S3200x256_0_256 inb_S256x8640_S256x256_0_4576,
    y256_piece x g w s 1 256 2416 2#32 rfl rfl inb_S3200x2160_S3200x256_0_256 inb_S256x8640_S256x256_0_2416,
    y256_piece x g w s 0 256 256 0#32 rfl rfl inb_S3200x2160_S3200x256_0_256 inb_S256x8640_S256x256_0_256,
    y256_piece x g w s 3 0 6480 6#32 rfl rfl inb_S3200x2160_S3200x256_0_0 inb_S256x8640_S256x256_0_6480,
    y256_piece x g w s 2 0 4320 4#32 rfl rfl inb_S3200x2160_S3200x256_0_0 inb_S256x8640_S256x256_0_4320,
    y256_piece x g w s 1 0 2160 2#32 rfl rfl inb_S3200x2160_S3200x256_0_0 inb_S256x8640_S256x256_0_2160,
    y256_piece x g w s 0 0 0 0#32 rfl rfl inb_S3200x2160_S3200x256_0_0 inb_S256x8640_S256x256_0_0, trivial⟩

end Run
end Cert.KernelIdeal.Val

end
-- ==== Proof.Arrays.lean ====
module

public import proofs.«01_k».proof.Proof.Block
public import Idealize.ShloMosaic.Lib.Claim

@[expose] public section

set_option maxRecDepth 16384

noncomputable section

/-! # The kernel's arrays after its run, and the results the host lays out from them -/

namespace Cert.KernelIdeal.Val

open Cert.KernelIdeal Cert.KernelIdeal.Gen Idealize.ShloMosaic Idealize.ShloMosaic.TcCoe Idealize.SL.Sem BitLinear

variable (m : (ℓ : Loc nD τ sig) → Buf (Elt Ideal) ℓ)

/-- Every input window's block is at block index zero. -/
theorem idx : ∀ t : Fin grid0.N, win0_0.index t 0 = 0 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 := by decide +kernel

/-- The one block of each input window is its array: the weights' scale, -/
theorem blk0 (c : Dev nD) : iblk m c 0 t0_0 = V m c main_v0 := by
  funext y; blk_ext [iblk, idx t0_0]
/-- the activations' rows, -/
theorem blk1 (c : Dev nD) : iblk m c 1 t0_0 = V m c main_v1 := by
  funext y; blk_ext [iblk, idx t0_0]
/-- the gains, -/
theorem blk2 (c : Dev nD) : iblk m c 2 t0_0 = V m c main_v2 := by
  funext y; blk_ext [iblk, idx t0_0]
/-- the packed weights. -/
theorem blk3 (c : Dev nD) : iblk m c 3 t0_0 = V m c main_arg2 := by
  funext y; blk_ext [iblk, idx t0_0]

/-- The output array after the run. -/
theorem array4 (c : Dev nD) : (dats m 0 c).arrAt 4 cfg0.N = yOf (V m c main_v1) (V m c main_v2) (V m c main_arg2) (V m c main_v0) := by
  refine (dats m 0 c).arrAt_eq_of_after_last 4 t0_0 (by decide +kernel) _ fun j => ?_
  blk_simp
  rw [after0_4]
  unfold outsAt0
  dsimp only
  rw [out4_eq, blk0, blk1, blk2, blk3]

/-- The codes' array after the run. -/
theorem array5 (c : Dev nD) : (dats m 0 c).arrAt 5 cfg0.N = codesOf (V m c main_v1) (V m c main_v2) := by
  refine (dats m 0 c).arrAt_eq_of_after_last 5 t0_0 (by decide +kernel) _ fun j => ?_
  blk_simp
  rw [after0_5]
  unfold outsAt0
  dsimp only
  rw [out5_eq, blk1, blk2]

/-- The scales' array after the run. -/
theorem array6 (c : Dev nD) : (dats m 0 c).arrAt 6 cfg0.N = xsOf (V m c main_v1) (V m c main_v2) := by
  refine (dats m 0 c).arrAt_eq_of_after_last 6 t0_0 (by decide +kernel) _ fun j => ?_
  blk_simp
  rw [after0_6]
  unfold outsAt0
  dsimp only
  rw [out6_eq, blk1, blk2]

/-- The region finds the activations as their 256 rows, -/
theorem V_v1 (c : Dev nD) : V m c main_v1 = shapeCast S256x3200 (m ((c : Thread nD τ).loc main_arg0)) shapeCasts_S2x128x3200_S256x3200 := by
  show StableHlo.after [hostOps0].flatten (fun b => m (c, b)) (Proc.tc.devRef main_v1) = _
  simp only [List.flatten_cons, List.flatten_nil, List.append_nil]
  after_results
  rfl
/-- the gains as one row, -/
theorem V_v2 (c : Dev nD) : V m c main_v2 = shapeCast S1x3200 (m ((c : Thread nD τ).loc main_arg1)) shapeCasts_S3200_S1x3200 := by
  show StableHlo.after [hostOps0].flatten (fun b => m (c, b)) (Proc.tc.devRef main_v2) = _
  simp only [List.flatten_cons, List.flatten_nil, List.append_nil]
  after_results
  rfl
/-- and the weights' scale as a one-entry array. -/
theorem V_v0 (c : Dev nD) : V m c main_v0 = shapeCast S1x1 (m ((c : Thread nD τ).loc main_arg3)) shapeCasts_S_S1x1 := by
  show StableHlo.after [hostOps0].flatten (fun b => m (c, b)) (Proc.tc.devRef main_v0) = _
  simp only [List.flatten_cons, List.flatten_nil, List.append_nil]
  after_results
  rfl

section Layout
variable (x : Vec Ideal S2x128x3200 .bf16) (g : Vec Ideal S3200 .f32) (w : Vec Ideal S3200x2160 .i8) (s : Vec Ideal S_ .f32)

/-- Row `128 a + b` of the activations laid out in rows is row `(a, b)` of the argument. -/
theorem xrow_cast (a : Fin 2) (b : Fin 128) (h : a.val * 128 + b.val < 256) :
    xrow (shapeCast S256x3200 x shapeCasts_S2x128x3200_S256x3200) ⟨a.val * 128 + b.val, h⟩ = fun k => x (ix3 a b k) := by
  funext k
  pointwise [xrow]
  blk_ext

/-- The gains laid out as one row are the gains. -/
theorem grow_cast : grow (shapeCast S1x3200 g shapeCasts_S3200_S1x3200) = fun k => g (ix1 k) := by
  funext k
  pointwise [grow]

/-- The one entry of the weights' scale laid out as an array is the scale. -/
theorem s_cast : shapeCast S1x1 s shapeCasts_S_S1x1 (ix2 0 0) = s (fun a => a.elim0) :=
  congrArg s (funext fun a => a.elim0)

/-- The kernel's output laid out in its three axes is the output of the arguments. -/
theorem lay4 : shapeCast S2x128x8640 (yOf (shapeCast S256x3200 x shapeCasts_S2x128x3200_S256x3200) (shapeCast S1x3200 g shapeCasts_S3200_S1x3200)
    w (shapeCast S1x1 s shapeCasts_S_S1x1)) shapeCasts_S256x8640_S2x128x8640 = resY x g w s := by
  funext y
  idx_vars y
  pointwise
  have h := congrArg₂ (fun r t => rowOut (shiftOf y2.val) r (fun k => g (ix1 k)) (fun l => w (ix2 l ⟨y2.val % 2160, Nat.mod_lt _ (by decide)⟩)) t)
    (xrow_cast x y0 y1 (by omega)) (s_cast s)
  rw [← grow_cast g] at h
  unfold resY
  rw [← grow_cast g]
  exact h

/-- The kernel's codes laid out in their three axes are the codes of the arguments. -/
theorem lay5 : shapeCast S2x128x3200 (codesOf (shapeCast S256x3200 x shapeCasts_S2x128x3200_S256x3200) (shapeCast S1x3200 g shapeCasts_S3200_S1x3200))
    shapeCasts_S256x3200_S2x128x3200 = resCodes x g := by
  funext y
  idx_vars y
  pointwise
  have h := congrArg (fun r => rowCode r (grow (shapeCast S1x3200 g shapeCasts_S3200_S1x3200)) y2) (xrow_cast x y0 y1 (by omega))
  unfold resCodes
  rw [← grow_cast g]
  exact h

/-- The kernel's scales laid out in their two axes are the scales of the arguments. -/
theorem lay6 : shapeCast S2x128 (xsOf (shapeCast S256x3200 x shapeCasts_S2x128x3200_S256x3200) (shapeCast S1x3200 g shapeCasts_S3200_S1x3200))
    shapeCasts_S256x1_S2x128 = resScales x g := by
  funext y
  idx_vars y
  pointwise
  have h := congrArg (fun r => rowScale r (grow (shapeCast S1x3200 g shapeCasts_S3200_S1x3200))) (xrow_cast x y0 y1 (by omega))
  unfold resScales
  rw [← grow_cast g]
  exact h

end Layout

/-- The host's result after the run: the output of the arguments. -/
theorem tail4 (c : Dev nD) : Pipeline.afterTail₀ cfgs (dats m) 0 (V0 m) [hostOps1] c main_v4
    = resY (m ((c : Thread nD τ).loc main_arg0)) (m ((c : Thread nD τ).loc main_arg1)) (m ((c : Thread nD τ).loc main_arg2)) (m ((c : Thread nD τ).loc main_arg3)) := by
  unfold Pipeline.afterTail₀ hostOps1
  simp only [List.flatten_cons, List.flatten_nil, List.append_nil]
  after_results
  rw [show Pipeline.withArrays (cfgs 0).spec c (V0 m c) (fun w => (dats m 0 c).arrAt w (cfgs 0).N) (Proc.tc.devRef main_v3_0) = _ from
    Pipeline.withArrays_arr (cfgs 0).spec winFacts0.arr_inj c (V0 m c) (fun w => (dats m 0 c).arrAt w (cfgs 0).N) 4]
  refine .trans ?_ (lay4 _ _ _ _)
  rw [← V_v1, ← V_v2, ← V_v0, ← V_main_arg2 m c]
  exact congrArg (fun A => shapeCast _ A _) (array4 m c)

/-- The host's result after the run: the codes of the arguments. -/
theorem tail5 (c : Dev nD) : Pipeline.afterTail₀ cfgs (dats m) 0 (V0 m) [hostOps1] c main_v5
    = resCodes (m ((c : Thread nD τ).loc main_arg0)) (m ((c : Thread nD τ).loc main_arg1)) := by
  unfold Pipeline.afterTail₀ hostOps1
  simp only [List.flatten_cons, List.flatten_nil, List.append_nil]
  after_results
  rw [show Pipeline.withArrays (cfgs 0).spec c (V0 m c) (fun w => (dats m 0 c).arrAt w (cfgs 0).N) (Proc.tc.devRef main_v3_1) = _ from
    Pipeline.withArrays_arr (cfgs 0).spec winFacts0.arr_inj c (V0 m c) (fun w => (dats m 0 c).arrAt w (cfgs 0).N) 5]
  refine .trans ?_ (lay5 _ _)
  rw [← V_v1, ← V_v2]
  exact congrArg (fun A => shapeCast _ A _) (array5 m c)

/-- The host's result after the run: the scales of the arguments. -/
theorem tail6 (c : Dev nD) : Pipeline.afterTail₀ cfgs (dats m) 0 (V0 m) [hostOps1] c main_v6
    = resScales (m ((c : Thread nD τ).loc main_arg0)) (m ((c : Thread nD τ).loc main_arg1)) := by
  unfold Pipeline.afterTail₀ hostOps1
  simp only [List.flatten_cons, List.flatten_nil, List.append_nil]
  after_results
  rw [show Pipeline.withArrays (cfgs 0).spec c (V0 m c) (fun w => (dats m 0 c).arrAt w (cfgs 0).N) (Proc.tc.devRef main_v3_2) = _ from
    Pipeline.withArrays_arr (cfgs 0).spec winFacts0.arr_inj c (V0 m c) (fun w => (dats m 0 c).arrAt w (cfgs 0).N) 6]
  refine .trans ?_ (lay6 _ _)
  rw [← V_v1, ← V_v2]
  exact congrArg (fun A => shapeCast _ A _) (array6 m c)

/-- THE KERNEL'S RUN: its three results are those of the arguments, which it leaves unchanged. -/
theorem run (ρ : Dev nD → PrngReg) : θ_run (defs (F := Ideal)) (onTc (τ := τ) (main (F := Ideal))) ⟨m, fun _ => 0, ρ⟩ (fun r => ∀ c : Dev nD,
      r.2.mem ((c : Thread nD τ).loc main_v4) = resY (m ((c : Thread nD τ).loc main_arg0)) (m ((c : Thread nD τ).loc main_arg1)) (m ((c : Thread nD τ).loc main_arg2)) (m ((c : Thread nD τ).loc main_arg3))
      ∧ r.2.mem ((c : Thread nD τ).loc main_v5) = resCodes (m ((c : Thread nD τ).loc main_arg0)) (m ((c : Thread nD τ).loc main_arg1))
      ∧ r.2.mem ((c : Thread nD τ).loc main_v6) = resScales (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c =>
    ⟨((h.1 c).2 main_v4 (Pipeline.mem_restRefs_of main_v4 (by decide) (by decide))).trans (tail4 m c),
      ((h.1 c).2 main_v5 (Pipeline.mem_restRefs_of main_v5 (by decide) (by decide))).trans (tail5 m c),
      ((h.1 c).2 main_v6 (Pipeline.mem_restRefs_of main_v6 (by decide) (by decide))).trans (tail6 m c),
      h.2 c⟩) (θ_run_and (run_main m ρ) (unchanged m ρ))

end Cert.KernelIdeal.Val

end
-- ==== Proof.RefTile.lean ====
module

public import proofs.«01_k».proof.Proof.Gen.ReferenceIdeal.Skeleton
public import proofs.«01_k».proof.Proof.Results
public import Idealize.ShloMosaic.Lib.Pipeline.ValueKit

@[expose] public section

set_option maxRecDepth 16384

noncomputable section

/-! # What the reference computes, entry by entry -/

namespace Cert.ReferenceIdeal.Val

open Cert.ReferenceIdeal Cert.ReferenceIdeal.Gen Idealize.ShloMosaic Idealize.ShloMosaic.TcCoe BitLinear

/-- Row `(a, b)` of the activations. -/
abbrev xrow (x : Vec Ideal S2x128x3200 .bf16) (a : Fin 2) (b : Fin 128) : Fin 3200 → EReal := fun k => x (ix3 a b k)

/-- The gains as a row. -/
abbrev grow (g : Vec Ideal S3200 .f32) : Fin 3200 → EReal := fun k => g (ix1 k)

section Rows
variable (x : Vec Ideal S2x128x3200 .bf16) (g : Vec Ideal S3200 .f32) (a : Fin 2) (b : Fin 128) (k : Fin 3200)
  (h : a.val * 128 + b.val < 256)

/-- The scale of a row. -/
theorem scale_at : k0_pay3 x g (ix2 a b) = rowScale (xrow x a b) (grow g) := by
  pointwise [k0_pay3, k0_pay2]; rfl

/-- The code of an entry. -/
theorem code_at : k0_pay4 x g (ix3 a b k) = rowCode (xrow x a b) (grow g) k := by
  pointwise [k0_pay4, k0_pay2, scale_at]; rfl

/-- The code of an entry, the rows numbered through. -/
theorem code2_at : k0_pay5 x g (ix2 ⟨a.val * 128 + b.val, h⟩ k) = rowCode (xrow x a b) (grow g) k := by
  rw [← code_at]
  pointwise [k0_pay5]
  blk_ext

/-- The operand of the products is the rounded entry: it is an integer of eight bits, so its code loses nothing. -/
theorem xb_at : k0_pay6 x g (ix2 ⟨a.val * 128 + b.val, h⟩ k) = rowQ (xrow x a b) (grow g) k := by
  rw [← sitofp_rowCode .bf16, ← code2_at x g a b k h]
  rfl

/-- The scale, the rows numbered through. -/
theorem xs_at : k0_pay7 x g (ix2 ⟨a.val * 128 + b.val, h⟩ 0) = rowScale (xrow x a b) (grow g) := by
  rw [← scale_at]
  pointwise [k0_pay7]
  blk_ext

/-- The sum of a row's rounded entries. -/
theorem xsum_at : k0_pay8 x g (ix2 ⟨a.val * 128 + b.val, h⟩ 0) = rowSum (xrow x a b) (grow g) := by
  pointwise [k0_pay8]
  refine (Fin.sum_fin_congr fun k => ?_ : _ = ∑ k, rowQ (xrow x a b) (grow g) k)
  rw [code2_at, sitofp_rowCode]

end Rows

section Fields
variable (xb : FVec Ideal S256x3200 .bf16) (xs xsum : FVec Ideal S256x1 .f32) (w : Vec Ideal S3200x2160 .i8) (s : Vec Ideal S1x1 .f32)

/-- The 2160 output columns of one field, at bit `sh`. -/
def fieldOut (sh : BitVec 32) (i : Fin 256) (k : Fin 2160) : EReal :=
  (∑ l, xb (ix2 i l) * field sh (w (ix2 l k)) - xsum (ix2 i 0)) * xs (ix2 i 0) * s (ix2 0 0)

/-- An entry of the stacked fields: output column `n` is column `n mod 2160` of field `n / 2160`. -/
theorem y_at (a : Fin 2) (b : Fin 128) (n : Fin 8640) (h : a.val * 128 + b.val < 256) :
    k0_pay1 xb xs xsum (k0_pay11 xb xs xsum (k0_pay10 w) s) (k0_pay12 xb xs xsum (k0_pay9 w) s)
      (k0_pay13 xb xs xsum (k0_pay9 w) s) (k0_pay14 (k0_pay9 w)) s (ix3 a b n)
    = fieldOut xb xs xsum w s (shiftOf n.val) ⟨a.val * 128 + b.val, h⟩ ⟨n.val % 2160, Nat.mod_lt _ (by decide)⟩ := by
  have hn := n.isLt
  have hc : n.val / 2160 = 0 ∨ n.val / 2160 = 1 ∨ n.val / 2160 = 2 ∨ n.val / 2160 = 3 := by omega
  pointwise [k0_pay1, k0_pay9, k0_pay10, k0_pay11, k0_pay12, k0_pay13, k0_pay14]
  rcases hc with h0 | h0 | h0 | h0
  · rw [dif_pos (by omega), show shiftOf n.val = 0#32 by unfold shiftOf; rw [h0]]; rfl
  · rw [dif_neg (by omega), dif_pos (by omega), show shiftOf n.val = 2#32 by unfold shiftOf; rw [h0]]; rfl
  · rw [dif_neg (by omega), dif_neg (by omega), dif_pos (by omega), show shiftOf n.val = 4#32 by unfold shiftOf; rw [h0]]; rfl
  · rw [dif_neg (by omega), dif_neg (by omega), dif_neg (by omega), show shiftOf n.val = 6#32 by unfold shiftOf; rw [h0]]; rfl

end Fields

end Cert.ReferenceIdeal.Val

end
-- ==== Proof.RefRun.lean ====
module

public import proofs.«01_k».proof.Proof.Gen.ReferenceIdeal.Value
public import proofs.«01_k».proof.Proof.RefTile
public import Idealize.ShloMosaic.Lib.Claim

@[expose] public section

set_option maxRecDepth 16384

noncomputable section

/-! # The reference's arrays after its run -/

namespace Cert.ReferenceIdeal.Val

open Cert.ReferenceIdeal Cert.ReferenceIdeal.Gen Idealize.ShloMosaic Idealize.ShloMosaic.TcCoe Idealize.SL.Sem BitLinear

section Blocks
variable (x : Vec Ideal S2x128x3200 .bf16) (g : Vec Ideal S3200 .f32) (w : Vec Ideal S3200x2160 .i8) (s : Vec Ideal S_ .f32) (s1 : Vec Ideal S1x1 .f32)

/-- The scales the body stores are the scales of its arguments. -/
theorem out6_eq : out0_6 x g w s1 = resScales x g := by
  unfold_out out0_6
  rw [View.canon_cons_unit_lit (Val := Elt Ideal) (S := S2x128) (e := .f32) _ _ [] (by decide)]
  rw [View.ld_unit_lit _ _ (by decide), View.ld_unit_lit _ _ (by decide)]
  funext y
  idx_vars y
  exact scale_at x g y0 y1

/-- The codes the body stores are the codes of its arguments. -/
theorem out5_eq : out0_5 x g w s1 = resCodes x g := by
  unfold_out out0_5
  rw [View.canon_cons_unit_lit (Val := Elt Ideal) (S := S2x128x3200) (e := .i8) _ _ [] (by decide)]
  rw [View.ld_unit_lit _ _ (by decide), View.ld_unit_lit _ _ (by decide)]
  funext y
  idx_vars y
  exact code_at x g y0 y1 y2

/-- One field's columns, of the rows the body computes, are the output's. -/
theorem fieldOut_eq (a : Fin 2) (b : Fin 128) (h : a.val * 128 + b.val < 256) (sh : BitVec 32) (k : Fin 2160) :
    fieldOut (k0_pay6 x g) (k0_pay7 x g) (k0_pay8 x g) w (shapeCast S1x1 s shapeCasts_S_S1x1) sh ⟨a.val * 128 + b.val, h⟩ k
    = rowOut sh (xrow x a b) (grow g) (fun l => w (ix2 l k)) (s (fun a => a.elim0)) := by
  unfold fieldOut
  simp only [xb_at, xs_at, xsum_at]
  rw [show shapeCast S1x1 s shapeCasts_S_S1x1 (ix2 0 0) = s (fun a => a.elim0) from congrArg s (funext fun a => a.elim0)]
  rfl

/-- The output the body stores is the output of its arguments. -/
theorem out4_eq : out0_4 x g w (shapeCast S1x1 s shapeCasts_S_S1x1) = resY x g w s := by
  unfold_out out0_4
  rw [View.canon_cons_unit_lit (Val := Elt Ideal) (S := S2x128x8640) (e := .bf16) _ _ [] (by decide)]
  rw [View.ld_unit_lit _ _ (by decide), View.ld_unit_lit _ _ (by decide), View.ld_unit_lit _ _ (by decide), View.ld_unit_lit _ _ (by decide)]
  funext y
  idx_vars y
  have h : y0.val * 128 + y1.val < 256 := by omega
  exact (y_at _ _ _ w _ y0 y1 y2 h).trans (fieldOut_eq x g w s y0 y1 h _ _)

end Blocks

variable (m : (ℓ : Loc nD τ sig) → Buf (Elt Ideal) ℓ)

/-- Every input window's block is at block index zero. -/
theorem idx : ∀ t : Fin grid0.N, win0_1.index t 0 = 0 ∧ win0_2.index t 0 = 0 ∧ win0_2.index t 1 = 0
    ∧ win0_3.index t 0 = 0 ∧ win0_3.index t 1 = 0 ∧ win0_0.index t 0 = 0 ∧ win0_0.index t 1 = 0 ∧ win0_0.index t 2 = 0 := by decide +kernel

/-- The one block of each input window is its array: the activations, -/
theorem blk0 (c : Dev nD) : iblk m c 0 t0_0 = V m c main_arg0 := by
  funext y; blk_ext [iblk, idx t0_0]
/-- the gains, -/
theorem blk1 (c : Dev nD) : iblk m c 1 t0_0 = V m c main_arg1 := by
  funext y; blk_ext [iblk, idx t0_0]
/-- the packed weights, -/
theorem blk2 (c : Dev nD) : iblk m c 2 t0_0 = V m c main_arg2 := by
  funext y; blk_ext [iblk, idx t0_0]
/-- the weights' scale. -/
theorem blk3 (c : Dev nD) : iblk m c 3 t0_0 = V m c main_v0 := by
  funext y; blk_ext [iblk, idx t0_0]

/-- The body finds the weights' scale as a one-entry array. -/
theorem V_v0 (c : Dev nD) : V m c main_v0 = shapeCast S1x1 (m ((c : Thread nD τ).loc main_arg3)) shapeCasts_S_S1x1 := by
  show StableHlo.after hostOps0 (fun b => m (c, b)) (Proc.tc.devRef main_v0) = _
  after_results
  rfl

/-- The output array after the run. -/
theorem array4 (c : Dev nD) : (dats m 0 c).arrAt 4 cfg0.N
    = resY (m ((c : Thread nD τ).loc main_arg0)) (m ((c : Thread nD τ).loc main_arg1)) (m ((c : Thread nD τ).loc main_arg2)) (m ((c : Thread nD τ).loc main_arg3)) := by
  refine (dats m 0 c).arrAt_eq_of_after_last 4 t0_0 (by decide +kernel) _ fun j => ?_
  blk_simp
  rw [after0_4, blk0, blk1, blk2, blk3, V_main_arg0, V_main_arg1, V_main_arg2, V_v0, out4_eq]

/-- The codes' array after the run. -/
theorem array5 (c : Dev nD) : (dats m 0 c).arrAt 5 cfg0.N
    = resCodes (m ((c : Thread nD τ).loc main_arg0)) (m ((c : Thread nD τ).loc main_arg1)) := by
  refine (dats m 0 c).arrAt_eq_of_after_last 5 t0_0 (by decide +kernel) _ fun j => ?_
  blk_simp
  rw [after0_5, blk0, blk1, V_main_arg0, V_main_arg1, out5_eq]

/-- The scales' array after the run. -/
theorem array6 (c : Dev nD) : (dats m 0 c).arrAt 6 cfg0.N
    = resScales (m ((c : Thread nD τ).loc main_arg0)) (m ((c : Thread nD τ).loc main_arg1)) := by
  refine (dats m 0 c).arrAt_eq_of_after_last 6 t0_0 (by decide +kernel) _ fun j => ?_
  blk_simp
  rw [after0_6, blk0, blk1, V_main_arg0, V_main_arg1, out6_eq]

/-- THE REFERENCE'S RUN: its three results are those of the arguments, which it leaves unchanged. -/
theorem run (ρ : Dev nD → PrngReg) : θ_run (defs (F := Ideal)) (onTc (τ := τ) (main (F := Ideal))) ⟨m, fun _ => 0, ρ⟩ (fun r => ∀ c : Dev nD,
      r.2.mem ((c : Thread nD τ).loc main_v1_0) = resY (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = resCodes (m ((c : Thread nD τ).loc main_arg0)) (m ((c : Thread nD τ).loc main_arg1))
      ∧ r.2.mem ((c : Thread nD τ).loc main_v1_2) = resScales (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c =>
    ⟨(h c).1.trans (array4 m c), (h c).2.1.trans (array5 m c), (h c).2.2.1.trans (array6 m c), (h c).2.2.2⟩)
    (Cert.ReferenceIdeal.Value.run_blocks m ρ)

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.Gen.ReferenceIdeal.Value
public import proofs.«01_k».proof.Proof.Arrays
public import proofs.«01_k».proof.Proof.RefRun

@[expose] public section

noncomputable section

namespace Cert.Proof

open Idealize.ShloMosaic Idealize.SL.Sem Cert.Kernel

/-- The idealized kernel and the reference end with the same three results: each run's results are the output, the codes
    and the scales of its arguments, and the arguments are the same. -/
theorem same_results : Cert.algebraic_KernelIdeal_ReferenceIdeal
    (hKernelIdeal := Cert.KernelIdeal.Gen.facts) (hReferenceIdeal := Cert.ReferenceIdeal.Gen.facts) := by
  intro m ρ m' ρ' _ same
  refine ⟨_, _, _, Cert.KernelIdeal.Val.run m ρ, ?_⟩
  refine (θ_run Cert.ReferenceIdeal.defs _ _).mono (fun r h c => ?_) (Cert.ReferenceIdeal.Val.run m' ρ')
  obtain ⟨s0, s1, s2, s3⟩ := same c
  obtain ⟨h4, h5, h6, kept⟩ := h c
  rw [s0, s1, s2, s3] at h4
  rw [s0, s1] at h5 h6
  exact ⟨h4, h5, h6, kept⟩

/-- Everything claimed: the three programs leave their arguments unchanged and their semaphores at zero, the idealized
    kernel is the kernel, and it computes what the reference computes. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, same_results⟩

end Cert.Proof

end
